-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x2048 : Shape := ⟨3, ![32, 1, 2048]⟩
abbrev S32x1x1 : Shape := ⟨3, ![32, 1, 1]⟩
abbrev S2048x29312 : Shape := ⟨2, ![2048, 29312]⟩
abbrev S29312 : Shape := ⟨1, ![29312]⟩
abbrev S32x2048 : Shape := ⟨2, ![32, 2048]⟩
abbrev S32x1 : Shape := ⟨2, ![32, 1]⟩
abbrev S1x29312 : Shape := ⟨2, ![1, 29312]⟩
abbrev S32x29312 : Shape := ⟨2, ![32, 29312]⟩
abbrev S2048x2048 : Shape := ⟨2, ![2048, 2048]⟩
abbrev S1x2048 : Shape := ⟨2, ![1, 2048]⟩
abbrev S32x1x29312 : Shape := ⟨3, ![32, 1, 29312]⟩

abbrev nBuf : Space → Nat
  | .hbm => 11
  | .vmem => 10
  | .smem => 0
  | _ => 0

abbrev bufTy : (tb : Table) → Fin (tcTables nBuf tb) → BufTy
  | .hbm, ⟨0, _⟩ => ⟨S32x1x2048, .fp8e4m3⟩
  | .hbm, ⟨1, _⟩ => ⟨S32x1x1, .f32⟩
  | .hbm, ⟨2, _⟩ => ⟨S2048x29312, .fp8e4m3⟩
  | .hbm, ⟨3, _⟩ => ⟨S29312, .f32⟩
  | .hbm, ⟨4, _⟩ => ⟨S29312, .f32⟩
  | .hbm, ⟨5, _⟩ => ⟨S32x2048, .fp8e4m3⟩
  | .hbm, ⟨6, _⟩ => ⟨S32x1, .f32⟩
  | .hbm, ⟨7, _⟩ => ⟨S1x29312, .f32⟩
  | .hbm, ⟨8, _⟩ => ⟨S1x29312, .f32⟩
  | .hbm, ⟨9, _⟩ => ⟨S32x29312, .bf16⟩
  | .hbm, ⟨10, _⟩ => ⟨S32x1x29312, .bf16⟩
  | .local _ .vmem, ⟨0, _⟩ => ⟨S32x2048, .fp8e4m3⟩
  | .local _ .vmem, ⟨1, _⟩ => ⟨S32x1, .f32⟩
  | .local _ .vmem, ⟨2, _⟩ => ⟨S2048x2048, .fp8e4m3⟩
  | .local _ .vmem, ⟨3, _⟩ => ⟨S2048x2048, .fp8e4m3⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S32x2048, .bf16⟩
  | .local _ .vmem, ⟨9, _⟩ => ⟨S32x2048, .bf16⟩
  | _, _ => ⟨S32x1x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x1x2048 : Shape := ⟨3, ![32, 1, 2048]⟩
abbrev S32x1x1 : Shape := ⟨3, ![32, 1, 1]⟩
abbrev S2048x29312 : Shape := ⟨2, ![2048, 29312]⟩
abbrev S29312 : Shape := ⟨1, ![29312]⟩
abbrev S32x1x29312 : Shape := ⟨3, ![32, 1, 29312]⟩
abbrev S1x1x29312 : Shape := ⟨3, ![1, 1, 29312]⟩

abbrev nBuf : Space → Nat
  | .hbm => 6
  | .vmem => 6
  | .smem => 0
  | _ => 0

abbrev bufTy : (tb : Table) → Fin (tcTables nBuf tb) → BufTy
  | .hbm, ⟨0, _⟩ => ⟨S32x1x2048, .fp8e4m3⟩
  | .hbm, ⟨1, _⟩ => ⟨S32x1x1, .f32⟩
  | .hbm, ⟨2, _⟩ => ⟨S2048x29312, .fp8e4m3⟩
  | .hbm, ⟨3, _⟩ => ⟨S29312, .f32⟩
  | .hbm, ⟨4, _⟩ => ⟨S29312, .f32⟩
  | .hbm, ⟨5, _⟩ => ⟨S32x1x29312, .bf16⟩
  | .local _ .vmem, ⟨0, _⟩ => ⟨S32x1x2048, .fp8e4m3⟩
  | .local _ .vmem, ⟨1, _⟩ => ⟨S32x1x1, .f32⟩
  | .local _ .vmem, ⟨2, _⟩ => ⟨S2048x29312, .fp8e4m3⟩
  | .local _ .vmem, ⟨3, _⟩ => ⟨S29312, .f32⟩
  | .local _ .vmem, ⟨4, _⟩ => ⟨S29312, .f32⟩
  | .local _ .vmem, ⟨5, _⟩ => ⟨S32x1x29312, .bf16⟩
  | _, _ => ⟨S32x1x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x1x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x29312 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S29312 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S29312 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x29312 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
module

public import proofs.«01_k».proof.Proof.Gen.Kernel.Frame
public import proofs.«01_k».proof.Proof.Gen.Kernel.Skeleton
public import proofs.«01_k».proof.Proof.Gen.Kernel.Points
public import Idealize.ShloMosaic.Lib.Claim
public import Idealize.ShloMosaic.Lib.Tactic
public import Idealize.ShloMosaic.Lib.Pipeline.FrameBody
public import Idealize.ShloMosaic.Lib.Pipeline.Value

/-! WHAT ONE GRID POINT DOES (the kernel as printed): run on any whole staging memrefs, the body reads its five inputs, leaves them
    as they were, and leaves in the output's buffer the payload `Gen.k0_pay1` of what it read. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The rectangles the body loads and stores through: each the whole of its block. -/
abbrev rX : Rect S32x2048 := Rect.unit (s := S32x2048) ![0, 0] S32x2048.size inb_S32x2048_S32x2048_0_0
abbrev rXs : Rect S32x1 := Rect.unit (s := S32x1) ![0, 0] S32x1.size inb_S32x1_S32x1_0_0
abbrev rW : Rect S2048x2048 := Rect.unit (s := S2048x2048) ![0, 0] S2048x2048.size inb_S2048x2048_S2048x2048_0_0
abbrev rRow : Rect S1x2048 := Rect.unit (s := S1x2048) ![0, 0] S1x2048.size inb_S1x2048_S1x2048_0_0

/-- The output's buffer after the body: its one store, through the whole rectangle. -/
def stored (x : Vec F S32x2048 .fp8e4m3) (xs : Vec F S32x1 .f32) (w : Vec F S2048x2048 .fp8e4m3) (ws b : Vec F S1x2048 .f32) :
    Vec F S32x2048 .bf16 :=
  View.canon [⟨rX, k0_pay1 (View.ld x rX) (View.ld w rW) (View.ld xs rXs) (View.ld ws rRow) (View.ld b rRow)⟩]

/-- The one store covers the buffer. -/
theorem stored_cover (p : Vec F S32x2048 .bf16) (y : S32x2048.Idx) :
    ∃ pc ∈ ([⟨rX, p⟩] : List (View.Piece (Elt F) S32x2048 .bf16)), y ∈ pc.1.set :=
  View.cover_of_tiled [⟨rX, p⟩] S32x2048.size (by rfl) y

/-- The zero offsets of a matrix access are zero on every axis. -/
theorem off_zero : (![0, 0] : Fin 2 → Nat) = fun _ => 0 := funext fun a => by fin_cases a <;> rfl

/-- Loading the whole of a block reads the block, and storing the whole of one leaves the payload. -/
theorem stored_eq (x : Vec F S32x2048 .fp8e4m3) (xs : Vec F S32x1 .f32) (w : Vec F S2048x2048 .fp8e4m3) (ws b : Vec F S1x2048 .f32) :
    stored x xs w ws b = k0_pay1 x w xs ws b := by
  unfold stored
  rw [View.canon_unit_zero off_zero, View.ld_unit_zero (S := S32x2048) off_zero _ x, View.ld_unit_zero (S := S2048x2048) off_zero _ w,
    View.ld_unit_zero (S := S32x1) off_zero _ xs, View.ld_unit_zero (S := S1x2048) off_zero _ ws, View.ld_unit_zero (S := S1x2048) off_zero _ b]

set_option maxHeartbeats 1000000 in
/-- THE BODY'S TRIPLE: on whole staging memrefs, the inputs' at `x`, `xs`, `w`, `ws`, `b` and the output's at anything,
    the body runs to the inputs unchanged and the output at its payload. -/
theorem sound_kernel (c : Dev nD) (E : Set ℕ) (i : grid0.Coords) (arg1 : Memref sig .tc .vmem S32x2048 .fp8e4m3) (harg1 : arg1.IsWhole)
    (arg2 : Memref sig .tc .vmem S32x1 .f32) (harg2 : arg2.IsWhole) (arg3 : Memref sig .tc .vmem S2048x2048 .fp8e4m3) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S32x2048 .bf16) (harg6 : arg6.IsWhole)
    (x : Vec F S32x2048 .fp8e4m3) (xs : Vec F S32x1 .f32) (w : Vec F S2048x2048 .fp8e4m3) (ws b : Vec F S1x2048 .f32) (K : PUnit → sProp 𝕄) :
    iprop(owns (c : Thread nD τ) arg1 fullShare x ∗ owns (c : Thread nD τ) arg2 fullShare xs ∗ owns (c : Thread nD τ) arg3 fullShare w
        ∗ owns (c : Thread nD τ) arg4 fullShare ws ∗ owns (c : Thread nD τ) arg5 fullShare b ∗ (∃ d, owns (c : Thread nD τ) arg6 fullShare d)
        ∗ (iprop(owns (c : Thread nD τ) arg1 fullShare x ∗ owns (c : Thread nD τ) arg2 fullShare xs ∗ owns (c : Thread nD τ) arg3 fullShare w
            ∗ owns (c : Thread nD τ) arg4 fullShare ws ∗ owns (c : Thread nD τ) arg5 fullShare b
            ∗ owns (c : Thread nD τ) arg6 fullShare (k0_pay1 x w xs ws b)) -∗ K ⟨⟩))
      ⊢ wp frame (wpE (defs₀ (F := F)) Variants.none c none) E
          (cc0__linear_kernel i arg1 harg1 arg2 harg2 arg3 harg3 arg4 harg4 arg5 harg5 arg6 harg6) K := by
  rw [← stored_eq]
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

end Cert.Kernel.Body

end
-- ==== Proof.KernelFrame.lean ====
module

public import proofs.«01_k».proof.Proof.KernelBody

/-! THE FRAME of the kernel as printed, at any float values. The last of the fifteen column blocks overhangs the arrays,
    so past the arrays' end the staging buffers hold contents nothing names, and at printed precision the matrix
    product is opaque: the certificate of the frame therefore FORGETS the output window (it says nothing of what is
    written back) and states the clipped inputs on the columns inside the arrays. -/

@[expose] public section

set_option maxRecDepth 16384

noncomputable section

namespace Cert.Kernel.Hand

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents the frame forgets: the output's. -/
def forgotten : Fin cfg0.W → Bool := fun | 0 => false | 1 => false | 2 => false | 3 => false | 4 => false | 5 => true

/-- The proof data: the arrays as the region finds them; after the body each uncut input's buffer at its block, each
    clipped input's at its block filled out with contents nothing reads, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (Dat.unnamed (cfg := cfg0) 2 t) (iblk m c 2 t)
    | ⟨3, _⟩ => win0_3.fill (grid0.coords t) (Dat.unnamed (cfg := cfg0) 3 t) (iblk m c 3 t)
    | ⟨4, _⟩ => win0_4.fill (grid0.coords t) (Dat.unnamed (cfg := cfg0) 4 t) (iblk m c 4 t)
    | ⟨5, _⟩ => Dat.unnamed (cfg := cfg0) 5 t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the two uncut inputs' buffers: their blocks. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

/-- What it leaves in the clipped inputs' buffers, on the columns inside the arrays: their blocks. -/
theorem cut_after_2 (c : Dev nD) (t : Fin cfg0.N) : (cfg0.win 2).cut (cfg0.grid.coords t) ((dats m 0 c).after 2 t) = iblk m c 2 t := by
  dsimp only [dats]; exact win0_2.cut_fill _ _ _
theorem cut_after_3 (c : Dev nD) (t : Fin cfg0.N) : (cfg0.win 3).cut (cfg0.grid.coords t) ((dats m 0 c).after 3 t) = iblk m c 3 t := by
  dsimp only [dats]; exact win0_3.cut_fill _ _ _
theorem cut_after_4 (c : Dev nD) (t : Fin cfg0.N) : (cfg0.win 4).cut (cfg0.grid.coords t) ((dats m 0 c).after 4 t) = iblk m c 4 t := by
  dsimp only [dats]; exact win0_4.cut_fill _ _ _

/-- What the body finds in the uncut inputs' buffers: their blocks, fetched at the first point and left in place. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What it finds in the clipped inputs' buffers, just fetched: the block on the columns inside the array, `d` past them. -/
theorem before_2 (c : Dev nD) (t : Fin cfg0.N) (d) : (dats m 0 c).before 2 t d = (cfg0.win 2).fill (cfg0.grid.coords t) d (iblk m c 2 t) := by
  unfold Dat.before; rw [if_pos (fetch0_2 t)]; rfl
theorem before_3 (c : Dev nD) (t : Fin cfg0.N) (d) : (dats m 0 c).before 3 t d = (cfg0.win 3).fill (cfg0.grid.coords t) d (iblk m c 3 t) := by
  unfold Dat.before; rw [if_pos (fetch0_3 t)]; rfl
theorem before_4 (c : Dev nD) (t : Fin cfg0.N) (d) : (dats m 0 c).before 4 t d = (cfg0.win 4).fill (cfg0.grid.coords t) d (iblk m c 4 t) := by
  unfold Dat.before; rw [if_pos (fetch0_4 t)]; rfl

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ (∃ X, owns (c : Thread nD τ) (st0_5 t) fullShare X))

/-- The body at any point: its triple at what the buffers hold; every input is left as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, cut_after_2, cut_after_3, cut_after_4]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t)
    ((cfg0.win 2).fill (cfg0.grid.coords t) d2 (iblk m c 2 t)) ((cfg0.win 3).fill (cfg0.grid.coords t) d3 (iblk m c 3 t))
    ((cfg0.win 4).fill (cfg0.grid.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point, the output's window forgotten. -/
theorem body_obligation (c : Dev nD) :
    BodyObligationLoose (dats (F := F) m 0 c) (defs₀ (F := F)) Variants.none () Set.univ forgotten := fun t => by
  rw [bigSep_W0, bigSep_W0, defs₀_row]
  exact triple_restated (sound_body m c t) rfl .rfl fun _ => .rfl

/-- The line after the region writes the result array only. -/
theorem sfx_writes : ∀ ops ∈ ([hostOps1] : List (List (HloOp τ sig (Elt F)))), ∀ op ∈ ops, ∀ b : Ref sig .tc,
    Proc.devRef .tc b ∈ op.writes → b ∈ ({main_v5} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  by_contra hne
  exact StableHlo.devRef_ne_of_ne (fun h => hne (Finset.mem_singleton.mpr h)) hb

set_option backward.isDefEq.respectTransparency.types false in
set_option maxHeartbeats 800000 in
/-- THE LAUNCH: every fair execution terminates; at the end the staged inputs are as the region found them, every other
    buffer but the result likewise, and every semaphore counter is zero. -/
theorem run_main : θ_run defs (onTc (τ := τ) (main (F := F))) (s₀ m ρ) (fun r =>
    Pipeline.RDat.FramePostR cfg0 (fun c => (dats m 0 c).toRForget forgotten) {main_v5} (V m) r ∧ r.2.sem = fun _ => 0) :=
  Pipeline.θ_run_frame_around_T_forget (Q' := _) cfgs (dats m) (0 : Fin 1) launch0 defs₀ Variants.none forgotten {main_v5} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl) (hQ' := fun _ h => h)

/-- A buffer no window stages and the last line does not write ends as the region found it. -/
theorem rest_kept {r : PUnit × MemSt nD τ sig (Elt F)} (h : Pipeline.RDat.FramePostR cfg0 (fun c => (dats m 0 c).toRForget forgotten) {main_v5} (V m) r)
    (c : Dev nD) (b : Ref sig .tc) (hb : b ∈ Pipeline.restRefs sig spec0) (hne : b ≠ main_v5) :
    r.2.mem ((c.tc : Thread nD τ).loc b) = V m c b :=
  (h c).2 b (Finset.mem_sdiff.mpr ⟨hb, fun hm => hne (Finset.mem_singleton.mp hm)⟩)

/-- THE FRAME: the kernel runs, its arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(rest_kept m h.1 c main_arg0 (Pipeline.mem_restRefs_of main_arg0 (by decide) (by decide)) (by decide)).trans (V_main_arg0 m c),
      (rest_kept m h.1 c main_arg1 (Pipeline.mem_restRefs_of main_arg1 (by decide) (by decide)) (by decide)).trans (V_main_arg1 m c),
      (h.1.arr_in c 2 rfl).trans ((A_eq m c 2).trans (V_main_arg2 m c)),
      (rest_kept m h.1 c main_arg3 (Pipeline.mem_restRefs_of main_arg3 (by decide) (by decide)) (by decide)).trans (V_main_arg3 m c),
      (rest_kept m h.1 c main_arg4 (Pipeline.mem_restRefs_of main_arg4 (by decide) (by decide)) (by decide)).trans (V_main_arg4 m c)⟩,
      h.2⟩) (run_main m ρ)

end Cert.Kernel.Hand

end
-- ==== Proof.KernelIdealBody.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Claim
public import Idealize.ShloMosaic.Lib.Tactic
public import Idealize.ShloMosaic.Lib.Pipeline.FrameBody
public import Idealize.ShloMosaic.Lib.Pipeline.Value

/-! WHAT ONE GRID POINT DOES (the idealized kernel): run on any whole staging memrefs, the body reads its five inputs, leaves them
    as they were, and leaves in the output's buffer the payload `Gen.k0_pay1` of what it read. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The rectangles the body loads and stores through: each the whole of its block. -/
abbrev rX : Rect S32x2048 := Rect.unit (s := S32x2048) ![0, 0] S32x2048.size inb_S32x2048_S32x2048_0_0
abbrev rXs : Rect S32x1 := Rect.unit (s := S32x1) ![0, 0] S32x1.size inb_S32x1_S32x1_0_0
abbrev rW : Rect S2048x2048 := Rect.unit (s := S2048x2048) ![0, 0] S2048x2048.size inb_S2048x2048_S2048x2048_0_0
abbrev rRow : Rect S1x2048 := Rect.unit (s := S1x2048) ![0, 0] S1x2048.size inb_S1x2048_S1x2048_0_0

/-- The output's buffer after the body: its one store, through the whole rectangle. -/
def stored (x : Vec F S32x2048 .fp8e4m3) (xs : Vec F S32x1 .f32) (w : Vec F S2048x2048 .fp8e4m3) (ws b : Vec F S1x2048 .f32) :
    Vec F S32x2048 .bf16 :=
  View.canon [⟨rX, k0_pay1 (View.ld x rX) (View.ld w rW) (View.ld xs rXs) (View.ld ws rRow) (View.ld b rRow)⟩]

/-- The one store covers the buffer. -/
theorem stored_cover (p : Vec F S32x2048 .bf16) (y : S32x2048.Idx) :
    ∃ pc ∈ ([⟨rX, p⟩] : List (View.Piece (Elt F) S32x2048 .bf16)), y ∈ pc.1.set :=
  View.cover_of_tiled [⟨rX, p⟩] S32x2048.size (by rfl) y

/-- The zero offsets of a matrix access are zero on every axis. -/
theorem off_zero : (![0, 0] : Fin 2 → Nat) = fun _ => 0 := funext fun a => by fin_cases a <;> rfl

/-- Loading the whole of a block reads the block, and storing the whole of one leaves the payload. -/
theorem stored_eq (x : Vec F S32x2048 .fp8e4m3) (xs : Vec F S32x1 .f32) (w : Vec F S2048x2048 .fp8e4m3) (ws b : Vec F S1x2048 .f32) :
    stored x xs w ws b = k0_pay1 x w xs ws b := by
  unfold stored
  rw [View.canon_unit_zero off_zero, View.ld_unit_zero (S := S32x2048) off_zero _ x, View.ld_unit_zero (S := S2048x2048) off_zero _ w,
    View.ld_unit_zero (S := S32x1) off_zero _ xs, View.ld_unit_zero (S := S1x2048) off_zero _ ws, View.ld_unit_zero (S := S1x2048) off_zero _ b]

set_option maxHeartbeats 1000000 in
/-- THE BODY'S TRIPLE: on whole staging memrefs, the inputs' at `x`, `xs`, `w`, `ws`, `b` and the output's at anything,
    the body runs to the inputs unchanged and the output at its payload. -/
theorem sound_kernel (c : Dev nD) (E : Set ℕ) (i : grid0.Coords) (arg1 : Memref sig .tc .vmem S32x2048 .fp8e4m3) (harg1 : arg1.IsWhole)
    (arg2 : Memref sig .tc .vmem S32x1 .f32) (harg2 : arg2.IsWhole) (arg3 : Memref sig .tc .vmem S2048x2048 .fp8e4m3) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S32x2048 .bf16) (harg6 : arg6.IsWhole)
    (x : Vec F S32x2048 .fp8e4m3) (xs : Vec F S32x1 .f32) (w : Vec F S2048x2048 .fp8e4m3) (ws b : Vec F S1x2048 .f32) (K : PUnit → sProp 𝕄) :
    iprop(owns (c : Thread nD τ) arg1 fullShare x ∗ owns (c : Thread nD τ) arg2 fullShare xs ∗ owns (c : Thread nD τ) arg3 fullShare w
        ∗ owns (c : Thread nD τ) arg4 fullShare ws ∗ owns (c : Thread nD τ) arg5 fullShare b ∗ (∃ d, owns (c : Thread nD τ) arg6 fullShare d)
        ∗ (iprop(owns (c : Thread nD τ) arg1 fullShare x ∗ owns (c : Thread nD τ) arg2 fullShare xs ∗ owns (c : Thread nD τ) arg3 fullShare w
            ∗ owns (c : Thread nD τ) arg4 fullShare ws ∗ owns (c : Thread nD τ) arg5 fullShare b
            ∗ owns (c : Thread nD τ) arg6 fullShare (k0_pay1 x w xs ws b)) -∗ K ⟨⟩))
      ⊢ wp frame (wpE (defs₀ (F := F)) Variants.none c none) E
          (cc0__linear_kernel i arg1 harg1 arg2 harg2 arg3 harg3 arg4 harg4 arg5 harg5 arg6 harg6) K := by
  rw [← stored_eq]
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

end Cert.KernelIdeal.Body

end
-- ==== Proof.KernelIdealPayload.lean ====
module

public import proofs.«01_k».proof.Proof.Gen.KernelIdeal.Skeleton
public import Idealize.ShloMosaic.Lib.Pointwise

/-! WHAT ONE BLOCK COMPUTES over the extended reals: column `l` of the body's payload is read from column `l` of the
    weight block, of the weight scales and of the bias. -/

@[expose] public section

set_option maxRecDepth 16384

noncomputable section

namespace Cert.KernelIdeal.Hand

open Cert.KernelIdeal Cert.KernelIdeal.Gen
open Idealize.ShloMosaic

/-- The payload at row `r` and column `l`: the inner product of row `r` of the left block and column `l` of the weight
    block, times the row's scale, times the column's scale, plus the column's bias. -/
theorem pay_apply (x : Vec Ideal S32x2048 .fp8e4m3) (w : Vec Ideal S2048x2048 .fp8e4m3) (xs : Vec Ideal S32x1 .f32) (ws b : Vec Ideal S1x2048 .f32)
    (r : Fin 32) (l : Fin 2048) :
    k0_pay1 x w xs ws b (ix2 r l)
      = (∑ k : Fin 2048, x (ix2 r k) * w (ix2 k l)) * xs (ix2 r 0) * ws (ix2 0 l) + b (ix2 0 l) := by
  pointwise [k0_pay1]

end Cert.KernelIdeal.Hand

end
-- ==== Proof.KernelIdealBlocks.lean ====
module

public import proofs.«01_k».proof.Proof.Gen.KernelIdeal.Frame
public import proofs.«01_k».proof.Proof.KernelIdealPayload
public import Idealize.ShloMosaic.Lib.Pipeline.ValueKit

/-! WHAT A COLUMN BLOCK HOLDS, element by element: block `t` of a clipped array is columns `2048·t` onward, on the
    columns that lie inside the array; hence what the body leaves in the output's buffer is, on those columns, block `t`
    of ONE function of the arrays. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Window)

/-- The windows' block indices at point `t`: the two uncut inputs stay at block zero, the others are at column block `t`. -/
theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val] := (by decide +kernel : ∀ t : Fin grid0.N, _)
theorem index_3 : ∀ t : Fin cfg0.N, win0_3.index t = ![0, t.val] := (by decide +kernel : ∀ t : Fin grid0.N, _)
theorem index_4 : ∀ t : Fin cfg0.N, win0_4.index t = ![0, t.val] := (by decide +kernel : ∀ t : Fin grid0.N, _)
theorem index_5 : ∀ t : Fin cfg0.N, win0_5.index t = ![0, t.val] := (by decide +kernel : ∀ t : Fin grid0.N, _)

/-- The clipped blocks' extents at point `t`: all rows, and the columns up to the array's end. -/
theorem xsize_2 : ∀ t : Fin cfg0.N, win0_2.xsize (grid0.coords t) 0 = 2048 ∧ win0_2.xsize (grid0.coords t) 1 = min 2048 (29312 - 2048 * t.val) :=
  (by decide +kernel : ∀ t : Fin grid0.N, _)
theorem xsize_3 : ∀ t : Fin cfg0.N, win0_3.xsize (grid0.coords t) 0 = 1 ∧ win0_3.xsize (grid0.coords t) 1 = min 2048 (29312 - 2048 * t.val) :=
  (by decide +kernel : ∀ t : Fin grid0.N, _)
theorem xsize_4 : ∀ t : Fin cfg0.N, win0_4.xsize (grid0.coords t) 0 = 1 ∧ win0_4.xsize (grid0.coords t) 1 = min 2048 (29312 - 2048 * t.val) :=
  (by decide +kernel : ∀ t : Fin grid0.N, _)
theorem xsize_5 : ∀ t : Fin cfg0.N, win0_5.xsize (grid0.coords t) 0 = 32 ∧ win0_5.xsize (grid0.coords t) 1 = min 2048 (29312 - 2048 * t.val) :=
  (by decide +kernel : ∀ t : Fin grid0.N, _)

variable (m : (ℓ : Loc nD τ sig) → Buf (Elt Ideal) ℓ)

/-- The uncut inputs' blocks are their arrays. -/
theorem xblk_apply (c : Dev nD) (t : Fin cfg0.N) (r : Fin 32) (k : Fin 2048) :
    iblk m c 0 t (ix2 r k) = V m c main_v0 (ix2 r k) := by
  blk_ext [iblk, index_0]
theorem xsblk_apply (c : Dev nD) (t : Fin cfg0.N) (r : Fin 32) :
    iblk m c 1 t (ix2 r 0) = V m c main_v1 (ix2 r 0) := by
  blk_ext [iblk, index_1]

/-- A column of a block lies in its part inside the array when the array has that column. -/
theorem col_lt {t l : Nat} (hl : l < 2048) (h : t * 2048 + l < 29312) : l < min 2048 (29312 - 2048 * t) := by omega

/-- The weight block at point `t`, whatever fills it out: at a column inside the array it is the array's column. -/
theorem wblk_apply (c : Dev nD) (t : Fin cfg0.N) (d) (k l : Fin 2048) (h : t.val * 2048 + l.val < 29312) :
    win0_2.fill (grid0.coords t) d (iblk m c 2 t) (ix2 k l) = V m c main_arg2 (ix2 k ⟨t.val * 2048 + l.val, h⟩) := by
  have hm : win0_2.moved (grid0.coords t) (ix2 k l) = true := (win0_2.moved_iff _ _).mpr fun a =>
    match a with
    | ⟨0, _⟩ => Nat.lt_of_lt_of_eq k.isLt (xsize_2 t).1.symm
    | ⟨1, _⟩ => Nat.lt_of_lt_of_eq (col_lt l.isLt h) (xsize_2 t).2.symm
  unfold Window.fill
  rw [dif_pos hm]
  blk_ext [iblk, index_2]
/-- The weight scales' block likewise; -/
theorem wsblk_apply (c : Dev nD) (t : Fin cfg0.N) (d) (l : Fin 2048) (h : t.val * 2048 + l.val < 29312) :
    win0_3.fill (grid0.coords t) d (iblk m c 3 t) (ix2 0 l) = V m c main_v2 (ix2 0 ⟨t.val * 2048 + l.val, h⟩) := by
  have hm : win0_3.moved (grid0.coords t) (ix2 0 l) = true := (win0_3.moved_iff _ _).mpr fun a =>
    match a with
    | ⟨0, _⟩ => Nat.lt_of_lt_of_eq Nat.one_pos (xsize_3 t).1.symm
    | ⟨1, _⟩ => Nat.lt_of_lt_of_eq (col_lt l.isLt h) (xsize_3 t).2.symm
  unfold Window.fill
  rw [dif_pos hm]
  blk_ext [iblk, index_3]
/-- and the bias's. -/
theorem bblk_apply (c : Dev nD) (t : Fin cfg0.N) (d) (l : Fin 2048) (h : t.val * 2048 + l.val < 29312) :
    win0_4.fill (grid0.coords t) d (iblk m c 4 t) (ix2 0 l) = V m c main_v3 (ix2 0 ⟨t.val * 2048 + l.val, h⟩) := by
  have hm : win0_4.moved (grid0.coords t) (ix2 0 l) = true := (win0_4.moved_iff _ _).mpr fun a =>
    match a with
    | ⟨0, _⟩ => Nat.lt_of_lt_of_eq Nat.one_pos (xsize_4 t).1.symm
    | ⟨1, _⟩ => Nat.lt_of_lt_of_eq (col_lt l.isLt h) (xsize_4 t).2.symm
  unfold Window.fill
  rw [dif_pos hm]
  blk_ext [iblk, index_4]

/-- THE RESULT as one function of the arrays the region runs on: scaled inner products plus bias. -/
def G (x : Vec Ideal S32x2048 .fp8e4m3) (xs : Vec Ideal S32x1 .f32) (w : Vec Ideal S2048x29312 .fp8e4m3) (ws b : Vec Ideal S1x29312 .f32) :
    Vec Ideal S32x29312 .bf16 :=
  fun i => (∑ k : Fin 2048, x (ix2 (i 0) k) * w (ix2 k (i 1))) * xs (ix2 (i 0) 0) * ws (ix2 0 (i 1)) + b (ix2 0 (i 1))

/-- The same at the region-entry contents of core `c`'s arrays. -/
def GV (c : Dev nD) : Vec Ideal S32x29312 .bf16 := G (V m c main_v0) (V m c main_v1) (V m c main_arg2) (V m c main_v2) (V m c main_v3)

/-- WHAT THE BODY LEAVES at point `t`, whatever the clipped blocks are filled out with, is on the columns inside the
    array block `t` of `GV`. -/
theorem cut_pay (c : Dev nD) (t : Fin cfg0.N) (d2 d3 d4) :
    win0_5.cut (grid0.coords t) (k0_pay1 (iblk m c 0 t) (win0_2.fill (grid0.coords t) d2 (iblk m c 2 t)) (iblk m c 1 t)
        (win0_3.fill (grid0.coords t) d3 (iblk m c 3 t)) (win0_4.fill (grid0.coords t) d4 (iblk m c 4 t)))
      = (win0_5.blk t).view.read (Elt Ideal) (GV m c) := by
  funext y
  have h0 : (y 0).val < 32 := Nat.lt_of_lt_of_eq (y 0).isLt (xsize_5 t).1
  have h1 : (y 1).val < min 2048 (29312 - 2048 * t.val) := Nat.lt_of_lt_of_eq (y 1).isLt (xsize_5 t).2
  have hl : (y 1).val < 2048 := by omega
  have hn : t.val * 2048 + (y 1).val < 29312 := by omega
  have e : win0_5.xinj (grid0.coords t) y = ix2 ⟨(y 0).val, h0⟩ ⟨(y 1).val, hl⟩ := eq_ix2 _
  have e' : (win0_5.blk t).view.emb y = ix2 ⟨(y 0).val, h0⟩ ⟨t.val * 2048 + (y 1).val, hn⟩ := by
    blk_ext [index_5]
  show k0_pay1 (F := Ideal) _ _ _ _ _ (win0_5.xinj (grid0.coords t) y) = GV m c ((win0_5.blk t).view.emb y)
  rw [e, e', pay_apply]
  simp only [xblk_apply, xsblk_apply, wblk_apply m c t d2 _ ⟨(y 1).val, hl⟩ hn, wsblk_apply m c t d3 ⟨(y 1).val, hl⟩ hn,
    bblk_apply m c t d4 ⟨(y 1).val, hl⟩ hn]
  rfl

end Cert.KernelIdeal.Hand

end
-- ==== Proof.KernelIdealRun.lean ====
module

public import proofs.«01_k».proof.Proof.KernelIdealBody
public import proofs.«01_k».proof.Proof.KernelIdealBlocks

/-! THE RUN of the idealized kernel, over the extended reals: the body's proof data name every output block as a block of
    `GV`, so the array the region leaves is `GV`, and the result the last line's reshape of it. -/

@[expose] public section

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data: the arrays as the region finds them; after the body each uncut input's buffer at its block, each
    clipped input's at its block and the output's at its block of `GV`, each filled out with contents nothing reads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (Dat.unnamed (cfg := cfg0) 2 t) (iblk m c 2 t)
    | ⟨3, _⟩ => win0_3.fill (grid0.coords t) (Dat.unnamed (cfg := cfg0) 3 t) (iblk m c 3 t)
    | ⟨4, _⟩ => win0_4.fill (grid0.coords t) (Dat.unnamed (cfg := cfg0) 4 t) (iblk m c 4 t)
    | ⟨5, _⟩ => win0_5.fill (grid0.coords t) (Dat.unnamed (cfg := cfg0) 5 t) ((win0_5.blk t).view.read (Elt Ideal) (GV m c))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the two uncut inputs' buffers: their blocks. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

/-- What it leaves in the clipped inputs' buffers, on the columns inside the arrays: their blocks. -/
theorem cut_after_2 (c : Dev nD) (t : Fin cfg0.N) : (cfg0.win 2).cut (cfg0.grid.coords t) ((dats m 0 c).after 2 t) = iblk m c 2 t := by
  dsimp only [dats]; exact win0_2.cut_fill _ _ _
theorem cut_after_3 (c : Dev nD) (t : Fin cfg0.N) : (cfg0.win 3).cut (cfg0.grid.coords t) ((dats m 0 c).after 3 t) = iblk m c 3 t := by
  dsimp only [dats]; exact win0_3.cut_fill _ _ _
theorem cut_after_4 (c : Dev nD) (t : Fin cfg0.N) : (cfg0.win 4).cut (cfg0.grid.coords t) ((dats m 0 c).after 4 t) = iblk m c 4 t := by
  dsimp only [dats]; exact win0_4.cut_fill _ _ _

/-- What it leaves in the output's buffer, on the columns inside the array: block `t` of `GV`. -/
theorem cut_after_5 (c : Dev nD) (t : Fin cfg0.N) :
    (cfg0.win 5).cut (cfg0.grid.coords t) ((dats m 0 c).after 5 t) = (win0_5.blk t).view.read (Elt Ideal) (GV m c) := by
  dsimp only [dats]; exact win0_5.cut_fill _ _ _

/-- What the body finds in the uncut inputs' buffers: their blocks, fetched at the first point and left in place. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What it finds in the clipped inputs' buffers, just fetched: the block on the columns inside the array, `d` past them. -/
theorem before_2 (c : Dev nD) (t : Fin cfg0.N) (d) : (dats m 0 c).before 2 t d = (cfg0.win 2).fill (cfg0.grid.coords t) d (iblk m c 2 t) := by
  unfold Dat.before; rw [if_pos (fetch0_2 t)]; rfl
theorem before_3 (c : Dev nD) (t : Fin cfg0.N) (d) : (dats m 0 c).before 3 t d = (cfg0.win 3).fill (cfg0.grid.coords t) d (iblk m c 3 t) := by
  unfold Dat.before; rw [if_pos (fetch0_3 t)]; rfl
theorem before_4 (c : Dev nD) (t : Fin cfg0.N) (d) : (dats m 0 c).before 4 t d = (cfg0.win 4).fill (cfg0.grid.coords t) d (iblk m c 4 t) := by
  unfold Dat.before; rw [if_pos (fetch0_4 t)]; rfl

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t)))))

/-- The body at any point: its triple at what the buffers hold; every input is left as it was found, and the
    output's buffer holds, on the columns inside the array, its block of `GV` (`cut_pay`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, cut_after_2, cut_after_3, cut_after_4, cut_after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t)
    ((cfg0.win 2).fill (cfg0.grid.coords t) d2 (iblk m c 2 t)) ((cfg0.win 3).fill (cfg0.grid.coords t) d3 (iblk m c 3 t))
    ((cfg0.win 4).fill (cfg0.grid.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists _
  rw [← cut_pay m c t d2 d3 d4, (cfg0.win 5).fill_cut]
  iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation at every point. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: every fair execution terminates; at the end the staged arrays are what the proof data say, every other
    buffer is what the last line makes of them, and every semaphore counter is zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- THE FRAME: the idealized kernel runs, its arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The fifteen blocks cover the array. -/
theorem covers_5 : (cfg0.win 5).Covers := by decide +kernel

/-- THE ARRAY the region leaves is `GV`: every point writes back its block of it, and the blocks cover the array. -/
theorem final_5 (c : Dev nD) : (dats m 0 c).arrAt 5 cfg0.N = GV m c :=
  (dats m 0 c).arrAt_eq_of_cover 5 (GV m c) (fun t _ => cut_after_5 m c t) (covers_5.cover _ (Memref.isWhole_whole _))

/-- THE RESULT: the last line reshapes the array the region leaves. -/
theorem result (c : Dev nD) :
    Pipeline.afterTail₀ cfgs (dats m) 0 (V0 m) [hostOps1] c main_v5 = shapeCast S32x1x29312 (GV m c) shapeCasts_S32x29312_S32x1x29312 := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v4) = GV m c :=
    (Pipeline.withArrays_arr (cfgs 0).spec launch0.win.arr_inj c (V0 m c) (fun w => (dats m 0 c).arrAt w (cfgs 0).N) 5).trans (final_5 m c)
  rw [h]; rfl

/-- THE VALUE RUN: the idealized kernel's result is `GV` reshaped, and its arguments end unchanged. -/
theorem run : θ_run defs (onTc (τ := τ) (main (F := Ideal))) ⟨m, fun _ => 0, ρ⟩ (fun r => ∀ c : Dev nD,
      r.2.mem ((c.tc : Thread nD τ).loc main_v5) = shapeCast S32x1x29312 (GV m c) shapeCasts_S32x29312_S32x1x29312
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1.1 c).2 main_v5 (Pipeline.mem_restRefs_of main_v5 (by decide) (by decide))).trans (result m c), h.2.1 c⟩)
    (θ_run_and (run_main m ρ) (frame m ρ))

end Cert.KernelIdeal.Hand

end
-- ==== Proof.ReferenceIdealPayload.lean ====
module

public import proofs.«01_k».proof.Proof.Gen.ReferenceIdeal.Skeleton
public import Idealize.ShloMosaic.Lib.Pointwise

/-! WHAT THE REFERENCE COMPUTES over the extended reals, element by element. -/

@[expose] public section

set_option maxRecDepth 16384

noncomputable section

namespace Cert.ReferenceIdeal.Hand

open Cert.ReferenceIdeal Cert.ReferenceIdeal.Gen
open Idealize.ShloMosaic

/-- The reference at batch `r` and output feature `n`: the inner product of the activations and the weight column, times
    the batch's scale, times the feature's scale, plus the feature's bias. -/
theorem pay_apply (x : Vec Ideal S32x1x2048 .fp8e4m3) (w : Vec Ideal S2048x29312 .fp8e4m3) (xs : Vec Ideal S32x1x1 .f32) (ws b : Vec Ideal S29312 .f32)
    (r : Fin 32) (n : Fin 29312) :
    k0_pay1 x w xs ws b (ix3 r 0 n)
      = (∑ k : Fin 2048, x (ix3 r 0 k) * w (ix2 k n)) * xs (ix3 r 0 0) * ws (ix1 n) + b (ix1 n) := by
  pointwise [k0_pay1]

end Cert.ReferenceIdeal.Hand

end
-- ==== Proof.Equation.lean ====
module

public import proofs.«01_k».proof.Proof.KernelIdealRun
public import proofs.«01_k».proof.Proof.ReferenceIdealPayload
public import proofs.«01_k».proof.Proof.Gen.ReferenceIdeal.Value

/-! THE EQUATION: the array the idealized kernel leaves, reshaped, is the reference's payload of the same arguments. -/

@[expose] public section

set_option maxRecDepth 16384

noncomputable section

namespace Cert.KernelIdeal.Hand

open Cert.KernelIdeal Cert.KernelIdeal.Gen
open Idealize Idealize.ShloMosaic Idealize.ShloMosaic.TcCoe Idealize.SL.Sem

variable (m : (ℓ : Loc nD τ sig) → Buf (Elt Ideal) ℓ)

/-- The activations the region reads are argument 0 with the unit axis dropped. -/
theorem x_eq (c : Dev nD) : V m c main_v0 = shapeCast S32x2048 (m ((c.tc : Thread nD τ).loc main_arg0)) shapeCasts_S32x1x2048_S32x2048 := by
  unfold_abbrev_sides
  simp only [hostOps0, List.flatten_cons, List.flatten_nil, List.append_nil]
  after_results; rfl

/-- The batches' scales it reads are argument 1 with a unit axis dropped. -/
theorem xs_eq (c : Dev nD) : V m c main_v1 = shapeCast S32x1 (m ((c.tc : Thread nD τ).loc main_arg1)) shapeCasts_S32x1x1_S32x1 := by
  unfold_abbrev_sides
  simp only [hostOps0, List.flatten_cons, List.flatten_nil, List.append_nil]
  after_results; rfl

/-- The features' scales it reads are argument 3 as one row. -/
theorem ws_eq (c : Dev nD) : V m c main_v2 = shapeCast S1x29312 (m ((c.tc : Thread nD τ).loc main_arg3)) shapeCasts_S29312_S1x29312 := by
  unfold_abbrev_sides
  simp only [hostOps0, List.flatten_cons, List.flatten_nil, List.append_nil]
  after_results; rfl

/-- The bias it reads is argument 4 as one row. -/
theorem b_eq (c : Dev nD) : V m c main_v3 = shapeCast S1x29312 (m ((c.tc : Thread nD τ).loc main_arg4)) shapeCasts_S29312_S1x29312 := by
  unfold_abbrev_sides
  simp only [hostOps0, List.flatten_cons, List.flatten_nil, List.append_nil]
  after_results; rfl

/-- `G` of reshaped operands at batch `r` and output feature `n`, in the operands. -/
theorem G_shapeCast (x : Vec Ideal S32x1x2048 .fp8e4m3) (xs : Vec Ideal S32x1x1 .f32) (w : Vec Ideal S2048x29312 .fp8e4m3) (ws b : Vec Ideal S29312 .f32)
    (r : Fin 32) (n : Fin 29312) :
    G (shapeCast S32x2048 x shapeCasts_S32x1x2048_S32x2048) (shapeCast S32x1 xs shapeCasts_S32x1x1_S32x1) w
        (shapeCast S1x29312 ws shapeCasts_S29312_S1x29312) (shapeCast S1x29312 b shapeCasts_S29312_S1x29312) (ix2 r n)
      = (∑ k : Fin 2048, x (ix3 r 0 k) * w (ix2 k n)) * xs (ix3 r 0 0) * ws (ix1 n) + b (ix1 n) := by
  have hx : ∀ k : Fin 2048, shapeCast S32x2048 x shapeCasts_S32x1x2048_S32x2048 (ix2 r k) = x (ix3 r 0 k) := fun k => by pointwise
  have hxs : shapeCast S32x1 xs shapeCasts_S32x1x1_S32x1 (ix2 r 0) = xs (ix3 r 0 0) := by pointwise
  have hws : shapeCast S1x29312 ws shapeCasts_S29312_S1x29312 (ix2 0 n) = ws (ix1 n) := by pointwise
  have hb : shapeCast S1x29312 b shapeCasts_S29312_S1x29312 (ix2 0 n) = b (ix1 n) := by pointwise
  show (∑ k : Fin 2048, shapeCast S32x2048 x shapeCasts_S32x1x2048_S32x2048 (ix2 r k) * w (ix2 k n))
      * shapeCast S32x1 xs shapeCasts_S32x1x1_S32x1 (ix2 r 0) * shapeCast S1x29312 ws shapeCasts_S29312_S1x29312 (ix2 0 n)
      + shapeCast S1x29312 b shapeCasts_S29312_S1x29312 (ix2 0 n) = _
  rw [hxs, hws, hb]
  simp only [hx]

/-- `G` of the reshaped operands, itself reshaped, is the reference's payload of the operands. -/
theorem shapeCast_G (x : Vec Ideal S32x1x2048 .fp8e4m3) (xs : Vec Ideal S32x1x1 .f32) (w : Vec Ideal S2048x29312 .fp8e4m3) (ws b : Vec Ideal S29312 .f32) :
    shapeCast S32x1x29312 (G (shapeCast S32x2048 x shapeCasts_S32x1x2048_S32x2048) (shapeCast S32x1 xs shapeCasts_S32x1x1_S32x1) w
        (shapeCast S1x29312 ws shapeCasts_S29312_S1x29312) (shapeCast S1x29312 b shapeCasts_S29312_S1x29312)) shapeCasts_S32x29312_S32x1x29312
      = Cert.ReferenceIdeal.Value.G5 x xs w ws b := by
  funext i
  obtain ⟨r, z, n, rfl⟩ : ∃ (r : Fin 32) (z : Fin 1) (n : Fin 29312), i = ix3 r z n := ⟨i 0, i 1, i 2, eq_ix3 i⟩
  obtain rfl : z = 0 := Subsingleton.elim _ _
  have h : ∀ y : Vec Ideal S32x29312 .bf16, shapeCast S32x1x29312 y shapeCasts_S32x29312_S32x1x29312 (ix3 r 0 n) = y (ix2 r n) := fun y => by pointwise
  rw [h, G_shapeCast]
  exact (Cert.ReferenceIdeal.Hand.pay_apply x w xs ws b r n).symm

/-- The kernel's result is the reference's payload of the kernel's arguments. -/
theorem result_eq (c : Dev nD) :
    shapeCast S32x1x29312 (GV m c) shapeCasts_S32x29312_S32x1x29312
      = Cert.ReferenceIdeal.Value.G5 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold GV
  rw [x_eq, xs_eq, ws_eq, b_eq, V_main_arg2]
  exact shapeCast_G _ _ _ _ _

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- THE EQUATION of the two programs: on the same arguments the idealized kernel and the idealized reference both end with
    one value, the kernel's array reshaped. -/
theorem algebraic : Cert.algebraic_KernelIdeal_ReferenceIdeal := fun m g m' g' _ h =>
  ⟨_, Cert.KernelIdeal.Hand.run m g, (θ_run Cert.ReferenceIdeal.defs _ _).mono
    (fun r hr c => ⟨(hr c).1.trans (by
      obtain ⟨h0, h1, h2, h3, h4⟩ := h c
      rw [h0, h1, h2, h3, h4]; exact (Cert.KernelIdeal.Hand.result_eq m c).symm), (hr c).2⟩)
    (Cert.ReferenceIdeal.Value.run m' g')⟩

/-- The five claims: three frames, one preservation, one equation. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, algebraic⟩

end Cert.Proof

end
